-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x128 : Shape := ⟨2, ![400, 128]⟩
abbrev S3x400x10000 : Shape := ⟨3, ![3, 400, 10000]⟩
abbrev S3 : Shape := ⟨1, ![3]⟩
abbrev S_ : Shape := ⟨0, ![]⟩
abbrev S1 : Shape := ⟨1, ![1]⟩
abbrev S1x400x10000 : Shape := ⟨3, ![1, 400, 10000]⟩
abbrev S400x10000 : Shape := ⟨2, ![400, 10000]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S128x128, .f32⟩
  | .local _ .vmem, ⟨1, _⟩ => ⟨S1x128, .f32⟩
  | .local _ .vmem, ⟨2, _⟩ => ⟨S400x128, .f32⟩
  | .local _ .vmem, ⟨3, _⟩ => ⟨S400x128, .f32⟩
  | .local _ .vmem, ⟨4, _⟩ => ⟨S10000x128, .f32⟩
  | .local _ .vmem, ⟨5, _⟩ => ⟨S10000x128, .bf16⟩
  | .local _ .vmem, ⟨6, _⟩ => ⟨S3x400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![25], ![false]⟩

def k0_off1 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off2 (i : grid0.Coords) : Fin 3 → Nat :=
  let arg0 : BitVec 32 := BitVec.ofNat 32 (i 0).val
  let c3_i32 : BitVec 32 := 3#32
  let v0 : BitVec 32 := Scalar.remsi arg0 c3_i32
  let c0_i32_1 : BitVec 32 := 0#32
  let c0_i32_2 : BitVec 32 := 0#32
  ![v0.toNat, 0, 0]
def k0_off3 (i : grid0.Coords) : Fin 2 → Nat :=
  let arg0 : BitVec 32 := BitVec.ofNat 32 (i 0).val
  let c400_i32 : BitVec 32 := 400#32
  let v4 : BitVec 32 := Scalar.muli arg0 c400_i32
  let c0_i32_3 : BitVec 32 := 0#32
  ![v4.toNat, 0]
def k0_off4 (i : grid0.Coords) : Fin 3 → Nat :=
  let arg0 : BitVec 32 := BitVec.ofNat 32 (i 0).val
  let c3_i32 : BitVec 32 := 3#32
  let v0 : BitVec 32 := Scalar.remsi arg0 c3_i32
  let v10 : Index := Scalar.indexCast v0
  let c0 : Index := 0#32
  let c0_4 : Index := 0#32
  ![v10.toNat, 0, 0]
def k0_cond2 (i : grid0.Coords) : BitVec 1 :=
  let arg0 : BitVec 32 := BitVec.ofNat 32 (i 0).val
  let c3_i32_11 : BitVec 32 := 3#32
  let v21 : BitVec 32 := Scalar.addi arg0 c3_i32_11
  let c25_i32 : BitVec 32 := 25#32
  let v22 : BitVec 1 := Scalar.cmpi .slt v21 c25_i32
  let v23 : BitVec 32 := Scalar.extui v22
  let c0_i32_12 : BitVec 32 := 0#32
  let v24 : BitVec 1 := Scalar.cmpi .ne v23 c0_i32_12
  v24

def k0_off5 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off6 (i : grid0.Coords) : Fin 3 → Nat :=
  let arg0 : BitVec 32 := BitVec.ofNat 32 (i 0).val
  let c3_i32 : BitVec 32 := 3#32
  let v0 : BitVec 32 := Scalar.remsi arg0 c3_i32
  let c0_i32_15 : BitVec 32 := 0#32
  let c0_i32_16 : BitVec 32 := 0#32
  ![v0.toNat, 0, 0]
def k0_off7 (i : grid0.Coords) : Fin 2 → Nat :=
  let arg0 : BitVec 32 := BitVec.ofNat 32 (i 0).val
  let c3_i32_13 : BitVec 32 := 3#32
  let v25 : BitVec 32 := Scalar.addi arg0 c3_i32_13
  let c400_i32_14 : BitVec 32 := 400#32
  let v26 : BitVec 32 := Scalar.muli v25 c400_i32_14
  let c0_i32_17 : BitVec 32 := 0#32
  ![v26.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Layer.Names.lean ====
/-
  The names the proof of the graph-convolution kernel is stated in: the three slots of the adjacency buffer, the
  twenty-five blocks of adjacency rows, the semaphore of each slot, and the two conditions of the kernel body as
  statements about the grid point.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Cert.KernelIdeal.Gen

/-! ## The operands the kernel addresses itself -/

/-- The feature matrix and the adjacency matrix, left in main memory. -/
abbrev xM : Memref sig .tc .hbm S10000x128 .f32 := Memref.whole main_arg0
abbrev adjM : Memref sig .tc .hbm S10000x10000 .f32 := Memref.whole main_arg1
/-- The kernel's own buffers: the copy of the features, the features times the weights, the three adjacency slots. -/
abbrev xcopyM : Memref sig .tc .vmem S10000x128 .f32 := Memref.whole cc0_scratch0
abbrev supportM : Memref sig .tc .vmem S10000x128 .bf16 := Memref.whole cc0_scratch1
abbrev slotsM : Memref sig .tc .vmem S3x400x10000 .f32 := Memref.whole cc0_scratch2

/-! ## Slots, blocks and cells -/

theorem slot_inb (s : Fin 3) : ∀ a, (![s.val, 0, 0] : Fin 3 → Nat) a + S1x400x10000.size a ≤ S3x400x10000.size a := by
  have := s.isLt
  intro a; fin_cases a <;> simp <;> omega
theorem block_inb (b : Fin 25) : ∀ a, (![400 * b.val, 0] : Fin 2 → Nat) a + S400x10000.size a ≤ S10000x10000.size a := by
  have := b.isLt
  intro a; fin_cases a <;> simp <;> omega
theorem cell_inb (s : Fin 3) : ∀ a, (![s.val] : Fin 1 → Nat) a + S1.size a ≤ S3.size a := by
  have := s.isLt
  intro a; fin_cases a; simp; omega

/-- Slot `s` of the adjacency buffer, as a 400 × 10000 matrix. -/
def slotM (s : Fin 3) : Memref sig .tc .vmem S400x10000 .f32 :=
  (slotsM.slice (Rect.unit (s := S3x400x10000) ![s.val, 0, 0] S1x400x10000.size (slot_inb s)) (fun _ => rfl)).squeeze S400x10000
    squeezes_S1x400x10000_S400x10000
/-- Rows `400 b … 400 b + 399` of the adjacency matrix. -/
def blockM (b : Fin 25) : Memref sig .tc .hbm S400x10000 .f32 :=
  adjM.slice (Rect.unit (s := S10000x10000) ![400 * b.val, 0] S400x10000.size (block_inb b)) (fun _ => rfl)
/-- The semaphore that says slot `s` has arrived. -/
def cellM (s : Fin 3) : DmaSems sig S_ :=
  (cc0_scratch3.slice (Rect.unit (s := S3) ![s.val] S1.size (cell_inb s))).squeeze S_ squeezes_S1_S_
abbrev cellSem (s : Fin 3) : SemLoc sig := SemLoc.dma (cellM s).sem

theorem cellSem_0 : cellSem 0 = SemLoc.dma 4 := by decide
theorem cellSem_1 : cellSem 1 = SemLoc.dma 5 := by decide
theorem cellSem_2 : cellSem 2 = SemLoc.dma 6 := by decide

/-- A slice of the adjacency buffer at offsets in slot `s` IS slot `s`, however the offsets are written; -/
theorem slotM_of {o : Fin 3 → Nat} (s : Fin 3) (h : o = ![s.val, 0, 0])
    (hb : ∀ a, o a + S1x400x10000.size a ≤ S3x400x10000.size a) :
    (slotsM.slice (Rect.unit (s := S3x400x10000) o S1x400x10000.size hb) (fun _ => rfl)).squeeze S400x10000
      squeezes_S1x400x10000_S400x10000 = slotM s := by
  subst h; rfl
/-- a slice of the adjacency matrix at block `b`'s rows IS block `b`; -/
theorem blockM_of {o : Fin 2 → Nat} (b : Fin 25) (h : o = ![400 * b.val, 0])
    (hb : ∀ a, o a + S400x10000.size a ≤ S10000x10000.size a) :
    adjM.slice (Rect.unit (s := S10000x10000) o S400x10000.size hb) (fun _ => rfl) = blockM b := by
  subst h; rfl
/-- and an entry of the semaphore array at index `s` IS slot `s`'s. -/
theorem cellM_of {o : Fin 1 → Nat} (s : Fin 3) (h : o = ![s.val]) (hb : ∀ a, o a + S1.size a ≤ S3.size a) :
    (cc0_scratch3.slice (Rect.unit (s := S3) o S1.size hb)).squeeze S_ squeezes_S1_S_ = cellM s := by
  subst h; rfl

/-! ## The body's offsets and conditions at grid point `t` -/

/-- The one grid coordinate of point `t` is `t`. -/
theorem coord (t : Fin cfg0.N) : (grid0.coords t 0).val = t.val := by
  have ht : t.val < 25 := Nat.lt_of_lt_of_eq t.isLt N_0
  have e : (grid0.coords t 0).val = t.val / 1 % 25 := Pipeline.Grid.coords_val t 0 (by decide) rfl
  omega

theorem sl_val (k : ℕ) : (Ring.sl 3 k).val = k % 3 := rfl
theorem sl_next (k : ℕ) : Ring.sl 3 (k + 3) = Ring.sl 3 k := Ring.sl_add 3 k

theorem off1_at (t : Fin cfg0.N) : k0_off1 (grid0.coords t) = ![(Ring.sl 3 t.val).val] := by
  rw [k0_off1_eq, coord]; rfl
theorem off2_at (t : Fin cfg0.N) : k0_off2 (grid0.coords t) = ![(Ring.sl 3 t.val).val, 0, 0] := by
  rw [k0_off2_eq, coord]; rfl
theorem off3_at (t : Fin cfg0.N) : k0_off3 (grid0.coords t) = ![400 * (Ring.bk 25 t.val).val, 0] := by
  rw [k0_off3_eq, coord, Ring.bk_val (Nat.lt_of_lt_of_eq t.isLt N_0)]
theorem off4_at (t : Fin cfg0.N) : k0_off4 (grid0.coords t) = ![(Ring.sl 3 t.val).val, 0, 0] := by
  rw [k0_off4_eq, coord]; rfl
theorem off5_at (t : Fin cfg0.N) : k0_off5 (grid0.coords t) = ![(Ring.sl 3 t.val).val] := by
  rw [k0_off5_eq, coord]; rfl
theorem off6_at (t : Fin cfg0.N) : k0_off6 (grid0.coords t) = ![(Ring.sl 3 t.val).val, 0, 0] := by
  rw [k0_off6_eq, coord]; rfl
theorem off7_at (t : Fin cfg0.N) (h : t.val + 3 < 25) :
    k0_off7 (grid0.coords t) = ![400 * (Ring.bk 25 (t.val + 3)).val, 0] := by
  rw [k0_off7_eq, coord, Ring.bk_val h, show 400 * (t.val + 3) = 400 * t.val + 1200 by omega]

/-- The slot load of point `t` lies in slot `t % 3`, said in the slot's own offsets. -/
instance (priority := high) closedOff4 (t : Fin cfg0.N) : ClosedOff (k0_off4 (grid0.coords t)) :=
  ⟨![(Ring.sl 3 t.val).val, 0, 0], off4_at t⟩

/-- The body's first condition: this is the first grid point. -/
abbrev isFirst (i : grid0.Coords) : Prop :=
  (Scalar.cmpi .ne (Scalar.extui (Scalar.cmpi .eq (BitVec.ofNat 32 (i 0).val) 0#32)) 0#32) = 1#1
theorem isFirst_iff (t : Fin cfg0.N) : isFirst (grid0.coords t) ↔ t.val = 0 := by
  have ht : t.val < 25 := Nat.lt_of_lt_of_eq t.isLt N_0
  simp only [isFirst, coord]
  word_cmp
/-- The body's second condition: there is a block three ahead still to start. -/
abbrev isMore (i : grid0.Coords) : Prop := k0_cond2 i = 1#1
theorem isMore_iff : ∀ t : Fin cfg0.N, isMore (grid0.coords t) ↔ t.val + 3 < 25 :=
  (by decide +kernel : ∀ t : Fin grid0.N, isMore (grid0.coords t) ↔ t.val + 3 < 25)

/-! ## The slots, disjoint and covering their buffer -/

abbrev slotSet (s : Fin 3) : Finset S3x400x10000.Idx :=
  (Rect.unit (s := S3x400x10000) ![s.val, 0, 0] S1x400x10000.size (slot_inb s)).set
theorem slotM_set (s : Fin 3) : (slotM s).view.set = slotSet s := by
  simp only [slotM, Memref.view_squeeze, View.set_reshape]
  exact View.set_slice_whole _ _
theorem slots_disjoint (s s' : Fin 3) (h : s ≠ s') : Disjoint (slotSet s) (slotSet s') :=
  Ring.lead_disjoint (s := S3x400x10000) (0 : Fin 3) 1 (fun s : Fin 3 => (![s.val, 0, 0] : Fin 3 → Nat)) S1x400x10000.size
    slot_inb (fun s => by simp) rfl s s' h
theorem slots_cover : Finset.univ.biUnion slotSet = Finset.univ :=
  Ring.lead_cover (s := S3x400x10000) (0 : Fin 3) 1 (fun s : Fin 3 => (![s.val, 0, 0] : Fin 3 → Nat)) S1x400x10000.size
    slot_inb (fun s => by simp) (fun s a ha => by fin_cases a <;> first | exact absurd rfl ha | rfl) rfl
    (fun a ha => by fin_cases a <;> first | exact absurd rfl ha | rfl) rfl

end Cert.KernelIdeal.Layer

end
-- ==== Proof.Layer.Ring.lean ====
/-
  The adjacency blocks in flight. Before grid point `k ≥ 1` the blocks `k`, `k + 1`, `k + 2` are on their way, each into
  the slot of its own number modulo three; a block past the last one is not started, and its slot is idle. One point
  waits for block `k` and starts block `k + 3` in the slot it has just read, so that of the three only the first
  changes: `due k` becomes `due (k + 3)`.
-/
module

public import proofs.«01_k».proof.Proof.Layer.Names

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type}

local notation "𝕄" => MT nD τ sig Unit (Elt F) ℕ (Pipeline.UD sig nD τ) ℕ

/-- The contents of the buffer memref `M` lies in, on core `c`. -/
abbrev Held (c : Dev nD) {sp : Space} {S : Shape} {e : EltTy} (M : Memref sig .tc sp S e) : Type :=
  Buf (Elt F) (M.view.loc (c : Thread nD τ))
/-- That buffer, whole, at the full share. -/
abbrev wholeAt (c : Dev nD) {sp : Space} {S : Shape} {e : EltTy} (M : Memref sig .tc sp S e) (f : Held (F := F) c M) : sProp 𝕄 :=
  M.view.loc (c : Thread nD τ) ↦{fullShare} f

/-- The adjacency matrix is read through three shares of it, one per slot: a transfer borrows its block from its own
    slot's share, whatever the other transfers are reading. -/
abbrev copyShare (s : Fin 3) : PosShare TreeShare :=
  if s.val = 0 then fullShare.left else if s.val = 1 then fullShare.right.left else fullShare.right.right

section Families
variable (c : Dev nD) (W : Held (F := F) c adjM)

/-- Slot `s` at contents `f`. -/
abbrev slotAt (s : Fin 3) (f : Held (F := F) c (slotM s)) : sProp 𝕄 :=
  (slotM s).view.loc (c : Thread nD τ) ↦[(slotM s).view.set]{fullShare} f
/-- Slot `s`'s semaphore at zero. -/
abbrev cellAt (s : Fin 3) : sProp 𝕄 := semVal ((c : Thread nD τ), cellSem s) 0
/-- Slot `s`'s share of block `b`, -/
abbrev blockAt (s : Fin 3) (b : Fin 25) : sProp 𝕄 :=
  (blockM b).view.loc (c : Thread nD τ) ↦[(blockM b).view.set]{copyShare s} W
/-- of everything but block `b`, -/
def restAt (s : Fin 3) (b : Fin 25) : sProp 𝕄 :=
  ((c : Thread nD τ).loc main_arg1) ↦[Finset.univ \ (blockM b).view.set]{copyShare s} W
/-- and of the whole adjacency matrix. -/
abbrev copyAt (s : Fin 3) : sProp 𝕄 := ((c : Thread nD τ).loc main_arg1) ↦[Finset.univ]{copyShare s} W

/-- What slot `s` holds once block `b` has arrived over `f`. -/
abbrev arrived (s : Fin 3) (b : Fin 25) (f : Held (F := F) c (slotM s)) : Held (F := F) c (slotM s) :=
  (slotM s).view.writes (Elt F) f [⟨Rect.whole S400x10000, ReadAs.same.apply ((blockM b).view.read (Elt F) W)⟩]
/-- Block `b` on its way into slot `s`: it will hand over the slot with the block in it and the share it borrowed. -/
abbrev flight (s : Fin 3) (b : Fin 25) (f : Held (F := F) c (slotM s)) : sProp 𝕄 :=
  Transfers.Flight countersEmb (c : Thread nD τ) (cellSem s) default ((slotM s).view.amount (cellSem s))
    iprop(slotAt c s (arrived c W s b f) ∗ blockAt c W s b)

/-- Slot `s` idle: its semaphore at zero, the slot at anything, its share of the matrix at home. -/
def idle (s : Fin 3) : sProp 𝕄 := iprop(cellAt c s ∗ (∃ f, slotAt (F := F) c s f) ∗ copyAt c W s)
/-- Slot `s` expecting block `b`. -/
def flying (s : Fin 3) (b : Fin 25) : sProp 𝕄 := iprop((∃ f, flight c W s b f) ∗ restAt c W s b)

/-- Block `k` on its way into its slot, if there is a block `k`; else that slot idle. -/
def due (k : ℕ) : sProp 𝕄 := if k < 25 then flying c W (Ring.sl 3 k) (Ring.bk 25 k) else idle c W (Ring.sl 3 k)
/-- The three slots before grid point `k`. -/
def ring (k : ℕ) : sProp 𝕄 :=
  if k = 0 then iprop(idle c W 0 ∗ idle c W 1 ∗ idle c W 2) else iprop(due c W k ∗ due c W (k + 1) ∗ due c W (k + 2))

theorem due_lt {k : ℕ} (h : k < 25) : due c W k = flying c W (Ring.sl 3 k) (Ring.bk 25 k) := if_pos h
theorem due_ge {k : ℕ} (h : 25 ≤ k) : due c W k = idle c W (Ring.sl 3 k) := if_neg (by omega)
theorem ring_zero : ring c W 0 = iprop(idle c W 0 ∗ idle c W 1 ∗ idle c W 2) := if_pos rfl
theorem ring_pos {k : ℕ} (h : 1 ≤ k) : ring c W k = iprop(due c W k ∗ due c W (k + 1) ∗ due c W (k + 2)) := if_neg (by omega)
/-- After the last point every slot is idle. -/
theorem ring_last : ring c W 25 = iprop(idle c W 1 ∗ idle c W 2 ∗ idle c W 0) := by
  rw [ring_pos c W (by decide), due_ge c W (by decide), due_ge c W (by decide), due_ge c W (by decide)]; rfl

/-! ## Shares and slots taken apart and put together -/

theorem slotAt_eq (s : Fin 3) (f) :
    slotAt (F := F) c s f = (((c : Thread nD τ).loc cc0_scratch2) ↦[slotSet s]{fullShare} f : sProp 𝕄) := by
  unfold slotAt; rw [slotM_set]; rfl
/-- A slot's share of the matrix is its share of block `b` and of the rest. -/
theorem copy_split (s : Fin 3) (b : Fin 25) : copyAt (F := F) c W s ⊣⊢ iprop(blockAt c W s b ∗ restAt c W s b) := by
  unfold restAt; exact pointsTo_split_subset (Finset.subset_univ _)
/-- The matrix whole is the three shares. -/
theorem shares : (wholeAt c adjM W : sProp 𝕄) ⊣⊢ iprop(copyAt c W 0 ∗ copyAt c W 1 ∗ copyAt c W 2) := by
  have halve := fun q : PosShare TreeShare =>
    pointsTo_share (Lvl := ℕ) (U := Pipeline.UD sig nD τ) (Name := ℕ) (Ix := Unit) (ℓ := (c : Thread nD τ).loc main_arg1)
      (I := Finset.univ) (f := W) (PosShare.mem_left_op_right q)
  refine ⟨?_, ?_⟩
  · iintro H
    ihave H' := (halve fullShare).1 $$ H
    icases H' with ⟨HL, HR⟩
    ihave HR' := (halve fullShare.right).1 $$ HR
    icases HR' with ⟨HRL, HRR⟩
    isplitl [HL]; · iexact HL
    isplitl [HRL]; · iexact HRL
    iexact HRR
  · iintro ⟨HL, HRL, HRR⟩
    iapply (halve fullShare).2
    isplitl [HL]; · iexact HL
    iapply (halve fullShare.right).2
    isplitl [HRL]; · iexact HRL
    iexact HRR
set_option maxHeartbeats 1000000 in
/-- The adjacency buffer at anything is its three slots at anything, -/
theorem slots_of_buffer : iprop(∃ d, owns (c : Thread nD τ) slotsM fullShare d)
    ⊢ (iprop((∃ f, slotAt (F := F) c 0 f) ∗ (∃ f, slotAt (F := F) c 1 f) ∗ ∃ f, slotAt (F := F) c 2 f) : sProp 𝕄) := by
  simp only [slotsM, owns_whole]
  exact Ring.slots3_split (U := Pipeline.UD sig nD τ) (ℓ := (c : Thread nD τ).loc cc0_scratch2) (q := fullShare) slotSet
    slots_disjoint slots_cover (slotAt c 0) (slotAt c 1) (slotAt c 2) (slotAt_eq c 0) (slotAt_eq c 1) (slotAt_eq c 2)
set_option maxHeartbeats 1000000 in
/-- and back. -/
theorem buffer_of_slots : (iprop((∃ f, slotAt (F := F) c 0 f) ∗ (∃ f, slotAt (F := F) c 1 f) ∗ ∃ f, slotAt (F := F) c 2 f) : sProp 𝕄)
    ⊢ iprop(∃ d, owns (c : Thread nD τ) slotsM fullShare d) := by
  simp only [slotsM, owns_whole]
  exact Ring.slots3_join (U := Pipeline.UD sig nD τ) (ℓ := (c : Thread nD τ).loc cc0_scratch2) (q := fullShare) slotSet
    slots_disjoint slots_cover (slotAt c 0) (slotAt c 1) (slotAt c 2) (slotAt_eq c 0) (slotAt_eq c 1) (slotAt_eq c 2)

theorem cellAt_0 : cellAt (F := F) c 0 = semVal ((c : Thread nD τ), SemLoc.dma 4) 0 :=
  congrArg (fun x => (semVal ((c : Thread nD τ), x) 0 : sProp 𝕄)) cellSem_0
theorem cellAt_1 : cellAt (F := F) c 1 = semVal ((c : Thread nD τ), SemLoc.dma 5) 0 :=
  congrArg (fun x => (semVal ((c : Thread nD τ), x) 0 : sProp 𝕄)) cellSem_1
theorem cellAt_2 : cellAt (F := F) c 2 = semVal ((c : Thread nD τ), SemLoc.dma 6) 0 :=
  congrArg (fun x => (semVal ((c : Thread nD τ), x) 0 : sProp 𝕄)) cellSem_2

/-- The three idle slots are the buffer, the three semaphores at zero, and the matrix whole. -/
theorem idle_slots : iprop(idle c W 0 ∗ idle c W 1 ∗ idle c W 2)
    ⊣⊢ iprop((∃ d, owns (c : Thread nD τ) slotsM fullShare d)
        ∗ (semVal ((c : Thread nD τ), SemLoc.dma 4) 0 ∗ semVal ((c : Thread nD τ), SemLoc.dma 5) 0 ∗ semVal ((c : Thread nD τ), SemLoc.dma 6) 0)
        ∗ wholeAt c adjM W) := by
  unfold idle
  rw [cellAt_0, cellAt_1, cellAt_2]
  refine ⟨?_, ?_⟩
  · iintro ⟨⟨C0, S0, W0⟩, ⟨C1, S1, W1⟩, ⟨C2, S2, W2⟩⟩
    isplitl [S0 S1 S2]
    · iapply (buffer_of_slots (F := F) c)
      isplitl [S0]; · iexact S0
      isplitl [S1]; · iexact S1
      iexact S2
    isplitl [C0 C1 C2]
    · isplitl [C0]; · iexact C0
      isplitl [C1]; · iexact C1
      iexact C2
    · iapply (shares (F := F) c W).2
      isplitl [W0]; · iexact W0
      isplitl [W1]; · iexact W1
      iexact W2
  · iintro ⟨HS, ⟨C0, C1, C2⟩, HW⟩
    ihave HS' := (slots_of_buffer (F := F) c) $$ HS
    icases HS' with ⟨S0, S1, S2⟩
    ihave HW' := (shares (F := F) c W).1 $$ HW
    icases HW' with ⟨W0, W1, W2⟩
    isplitl [C0 S0 W0]
    · isplitl [C0]; · iexact C0
      isplitl [S0]; · iexact S0
      iexact W0
    isplitl [C1 S1 W1]
    · isplitl [C1]; · iexact C1
      isplitl [S1]; · iexact S1
      iexact W1
    · isplitl [C2]; · iexact C2
      isplitl [S2]; · iexact S2
      iexact W2
end Families

end Cert.KernelIdeal.Layer

end
-- ==== Proof.Layer.Block.lean ====
/-
  What one grid point computes, as a function of arrays: the block of output rows it leaves from a block of adjacency
  rows, the features times the weights, and the bias; and the facts that the body's loads read exactly those.
-/
module

public import proofs.«01_k».proof.Proof.Layer.Ring
public import Idealize.ShloMosaic.Lib.VecWindow

@[expose] public section

set_option maxRecDepth 16384

noncomputable section

namespace Cert.KernelIdeal.Layer

open Idealize.ShloMosaic Idealize.ShloMosaic.TcCoe
open Cert.KernelIdeal.Gen

variable {F : FTy → Type} [FloatOps F]

/-- 400 output rows: 400 adjacency rows `a` times the support `s`, plus the bias `b` along every row. -/
def outRows (a : Vec F S400x10000 .f32) (s : Vec F S10000x128 .bf16) (b : Vec F S1x128 .f32) : FVec F S400x128 .f32 :=
  addf (matmul dot_S400x10000_S10000x128_S400x128_1_0_0_1_n_n none (truncf .bf16 a bitsLt_bf16_f32 : FVec F S400x10000 .bf16) s
      (constant S400x128 .f32 0x00000000#32 : FVec F S400x128 .f32))
    (broadcastTo S400x128 (shapeCast S1x128 b shapeCasts_S1x128_S1x128 : FVec F S1x128 .f32) broadcasts_S1x128_S400x128)

omit [FloatOps F] in
/-- A load of the adjacency buffer at slot `s`'s offsets, seen as a matrix, reads what slot `s` holds. -/
theorem slot_load {o : Fin 3 → Nat} (s : Fin 3) (h : o = ![s.val, 0, 0])
    (hb : ∀ a, o a + S1x400x10000.size a ≤ S3x400x10000.size a) (f : BufTy.Contents (Elt F) (slotM s).view.ty) :
    shapeCast S400x10000
        (View.readAt (Elt F) slotsM.view (Rect.unit (s := S3x400x10000) o S1x400x10000.size hb).toLoadRect f)
        shapeCasts_S1x400x10000_S400x10000
      = (slotM s).view.read (Elt F) f := by
  subst h; rfl

/-- The block the body stores, when the slot it loads has adjacency rows `a` in it, is `outRows` of those rows. -/
theorem stored_eq {o : Fin 3 → Nat} (s : Fin 3) (h : o = ![s.val, 0, 0])
    (hb : ∀ a, o a + S1x400x10000.size a ≤ S3x400x10000.size a) (f : BufTy.Contents (Elt F) (slotM s).view.ty)
    (a : Vec F S400x10000 .f32) (sup : Vec F S10000x128 .bf16) (b : Vec F S1x128 .f32) :
    k0_pay2 (View.readAt (Elt F) slotsM.view (Rect.unit (s := S3x400x10000) o S1x400x10000.size hb).toLoadRect
        ((slotM s).view.writes (Elt F) f [⟨Rect.whole S400x10000, a⟩])) sup b
      = outRows a sup b := by
  have e := slot_load (F := F) s h hb ((slotM s).view.writes (Elt F) f [⟨Rect.whole S400x10000, a⟩])
  rw [View.read_writes_whole] at e
  exact congrArg (fun x => outRows x sup b) e

end Cert.KernelIdeal.Layer

end
-- ==== Proof.Layer.Body.lean ====
/-
  The kernel body at one grid point: what it takes, what it gives back.
-/
module

public import proofs.«01_k».proof.Proof.Layer.Block

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

section
variable (c : Dev nD) (t : Fin cfg0.N)
  (arg1 : Memref sig .tc .vmem S128x128 .f32) (harg1 : arg1.IsWhole) (arg2 : Memref sig .tc .vmem S1x128 .f32) (harg2 : arg2.IsWhole)
  (arg5 : Memref sig .tc .vmem S400x128 .f32) (harg5 : arg5.IsWhole) (arg6 : Memref sig .tc .vmem S10000x128 .f32) (harg6 : arg6.IsWhole)
  (arg7 : Memref sig .tc .vmem S10000x128 .bf16) (harg7 : arg7.IsWhole)

/-- The kernel body at point `t` on given staging buffers. -/
abbrev bodyOn : Prog (TpuEff nD τ sig (Elt F) Λ₀ .tc) PUnit :=
  cc0__gcn_kernel (grid0.coords t) arg1 harg1 arg2 harg2 xM (Memref.isWhole_whole _) adjM (Memref.isWhole_whole _)
    arg5 harg5 arg6 harg6 arg7 harg7 slotsM (Memref.isWhole_whole _) cc0_scratch3 cc0_scratch4

variable (x2 : Vec F S1x128 .f32) (A : Held (F := F) c adjM)

/-- The body's last statement: start the block three ahead, if there is one. -/
abbrev refill : Prog (TpuEff nD τ sig (Elt F) Λ₀ .tc) PUnit :=
  if h : isMore (grid0.coords t) then do
    Prog.lift (.enqueueDma (adjM.slice (Rect.unit (s := S10000x10000) (k0_off7 (grid0.coords t)) S400x10000.size (k0_off7_inb (grid0.coords t) h)) (fun _ => rfl))
      (.here ((slotsM.slice (Rect.unit (s := S3x400x10000) (k0_off6 (grid0.coords t)) S1x400x10000.size (k0_off6_inb (grid0.coords t) h)) (fun _ => rfl)).squeeze S400x10000 squeezes_S1x400x10000_S400x10000))
      (.dma ((cc0_scratch3.slice (Rect.unit (s := S3) (k0_off5 (grid0.coords t)) S1.size (k0_off5_inb (grid0.coords t) h))).squeeze S_ squeezes_S1_S_).sem)
      (View.wordExact_bits rfl) ((View.wordExact_bits rfl).reshape _ _) ⟨Or.inl rfl, trivial⟩)
    pure ⟨⟩
  else pure ⟨⟩

set_option maxHeartbeats 1000000 in
/-- It turns the slot just read, idle, into the slot expecting block `t + 3` (or leaves it idle, there being no such
    block): what `due` says of `t + 3`. -/
theorem refill_spec (Wt : Waits sig Unit) (K : PUnit → sProp 𝕄) :
    iprop(idle c A (Ring.sl 3 t.val) ∗ owes (c : Thread nD τ) 0 Wt
        ∗ (iprop(due c A (t.val + 3) ∗ owes (c : Thread nD τ) 0 Wt) -∗ K ⟨⟩))
      ⊢ wp frame (wpE (defs₀ (F := F)) Variants.none c none) Set.univ (refill t) K := by
  unfold refill
  by_cases hm : t.val + 3 < 25
  · have hc1 : isMore (grid0.coords t) := (isMore_iff t).mpr hm
    have hcanon5 := cellM_of _ (off5_at t) (k0_off5_inb (grid0.coords t) hc1)
    have hcanon6 := slotM_of _ (off6_at t) (k0_off6_inb (grid0.coords t) hc1)
    have hcanon7 := blockM_of _ (off7_at t hm) (k0_off7_inb (grid0.coords t) hc1)
    rw [due_lt c A hm, sl_next]
    unfold flying idle
    iintro ⟨⟨Hc, ⟨%f, Hs⟩, Hw⟩, HW, Hk⟩
    ihave Hw' := (copy_split c A (Ring.sl 3 t.val) (Ring.bk 25 (t.val + 3))).1 $$ Hw
    icases Hw' with ⟨Hb, Hr⟩
    sl_exec (disch := sl_exact hc1)
    sl_step
    iapply Hk
    isplitl [Hc Hr]
    · isplitl [Hc]; · iexists _; iexact Hc
      iexact Hr
    iexact HW
  · have hc1 : ¬isMore (grid0.coords t) := fun h => hm ((isMore_iff t).mp h)
    rw [due_ge c A (by omega), sl_next]
    iintro ⟨Hi, HW, Hk⟩
    sl_exec (disch := sl_exact hc1)
    sl_step
    iapply Hk
    isplitl [Hi]; · iexact Hi
    iexact HW

set_option maxHeartbeats 1000000 in
/-- A point after the first: the bias, the support and block `t` on its way come in; the block of output rows goes out,
    and in the slot block `t + 3` is on its way, if there is one. -/
theorem body_later (ht : t.val ≠ 0) (sup : Vec F S10000x128 .bf16) (Wt : Waits sig Unit) (K : PUnit → sProp 𝕄) :
    iprop(owns (c : Thread nD τ) arg2 fullShare x2 ∗ (∃ d, owns (c : Thread nD τ) arg5 fullShare d)
        ∗ owns (c : Thread nD τ) arg7 fullShare sup ∗ due c A t.val ∗ owes (c : Thread nD τ) 0 Wt
        ∗ (iprop(owns (c : Thread nD τ) arg2 fullShare x2
            ∗ owns (c : Thread nD τ) arg5 fullShare (outRows ((blockM (Ring.bk 25 t.val)).view.read (Elt F) A) sup x2)
            ∗ owns (c : Thread nD τ) arg7 fullShare sup ∗ due c A (t.val + 3) ∗ (∃ W', owes (c : Thread nD τ) 0 W')) -∗ K ⟨⟩))
      ⊢ wp frame (wpE (defs₀ (F := F)) Variants.none c none) Set.univ
          (bodyOn t arg1 harg1 arg2 harg2 arg5 harg5 arg6 harg6 arg7 harg7) K := by
  have hc0 : ¬isFirst (grid0.coords t) := fun h => ht ((isFirst_iff t).mp h)
  unfold bodyOn
  simp only [cc0__gcn_kernel_eq_skeleton]; unfold cc0__gcn_kernel_skel
  have hcanon1 := cellM_of _ (off1_at t) (k0_off1_inb (grid0.coords t))
  have hcanon2 := slotM_of _ (off2_at t) (k0_off2_inb (grid0.coords t))
  have hcanon3 := blockM_of _ (off3_at t) (k0_off3_inb (grid0.coords t))
  rw [due_lt c A (Nat.lt_of_lt_of_eq t.isLt N_0)]
  unfold owns flying
  iintro ⟨⟨%f2, %hf2, H2⟩, ⟨%d5, %f5, -, H5⟩, ⟨%f7, %hf7, H7⟩, ⟨⟨%fs, Hs⟩, Hr⟩, HW, Hk⟩
  obtain rfl := harg2.eq_unread hf2
  obtain rfl := harg7.eq_unread hf7
  sl_exec (disch := sl_exact hc0)
  iapply (refill_spec c t A _ K)
  isplitl [Hs Hs_dst Hs_src Hr]
  · unfold idle
    isplitl [Hs]; · iexact Hs
    isplitl [Hs_dst]; · iexists _; iexact Hs_dst
    iapply (copy_split c A (Ring.sl 3 t.val) (Ring.bk 25 t.val)).2
    isplitl [Hs_src]; · iexact Hs_src
    iexact Hr
  isplitl [HW]; · iexact HW
  iintro ⟨Hd, HW⟩
  iapply Hk
  isplitl [H2]
  · iexists _; isplitr; · ipureintro; exact harg2.read_unread _
    iexact H2
  isplitl [H5]
  · iexists _; isplitr; swap; · iexact H5
    ipureintro
    rw [View.read_writes_full, View.readAt_full, View.readAt_full, harg2.read_unread, harg7.read_unread]
    exact stored_eq _ (off4_at t) _ _ _ _ _
  isplitl [H7]
  · iexists _; isplitr; · ipureintro; exact harg7.read_unread _
    iexact H7
  isplitl [Hd]; · iexact Hd
  iexists _; iexact HW

set_option maxHeartbeats 1000000 in
/-- The first point: every slot idle, the features in main memory, the weights and the bias come in; the support is
    computed and left in its buffer, the first block of output rows goes out, and blocks 1, 2 and 3 are on their way. -/
theorem body_first (ht : t.val = 0) (x1 : Vec F S128x128 .f32) (X : Held (F := F) c xM) (Wt : Waits sig Unit) (K : PUnit → sProp 𝕄) :
    iprop(owns (c : Thread nD τ) arg1 fullShare x1 ∗ owns (c : Thread nD τ) arg2 fullShare x2 ∗ (∃ d, owns (c : Thread nD τ) arg5 fullShare d)
        ∗ (∃ d, owns (c : Thread nD τ) arg6 fullShare d) ∗ (∃ d, owns (c : Thread nD τ) arg7 fullShare d)
        ∗ semVal ((c : Thread nD τ), SemLoc.dma 7) 0 ∗ wholeAt c xM X
        ∗ idle c A (Ring.sl 3 t.val) ∗ idle c A (Ring.sl 3 (t.val + 1)) ∗ idle c A (Ring.sl 3 (t.val + 2)) ∗ owes (c : Thread nD τ) 0 Wt
        ∗ (iprop(owns (c : Thread nD τ) arg1 fullShare x1 ∗ owns (c : Thread nD τ) arg2 fullShare x2
            ∗ owns (c : Thread nD τ) arg5 fullShare (outRows ((blockM (Ring.bk 25 t.val)).view.read (Elt F) A) (k0_pay1 X x1) x2)
            ∗ (∃ d, owns (c : Thread nD τ) arg6 fullShare d) ∗ owns (c : Thread nD τ) arg7 fullShare (k0_pay1 X x1)
            ∗ semVal ((c : Thread nD τ), SemLoc.dma 7) 0 ∗ wholeAt c xM X
            ∗ due c A (t.val + 1) ∗ due c A (t.val + 2) ∗ due c A (t.val + 3) ∗ (∃ W', owes (c : Thread nD τ) 0 W')) -∗ K ⟨⟩))
      ⊢ wp frame (wpE (defs₀ (F := F)) Variants.none c none) Set.univ
          (bodyOn t arg1 harg1 arg2 harg2 arg5 harg5 arg6 harg6 arg7 harg7) K := by
  have hc0 : isFirst (grid0.coords t) := (isFirst_iff t).mpr ht
  unfold bodyOn
  simp only [cc0__gcn_kernel_eq_skeleton]; unfold cc0__gcn_kernel_skel
  have hcanon1 := cellM_of _ (off1_at t) (k0_off1_inb (grid0.coords t))
  have hcanon2 := slotM_of _ (off2_at t) (k0_off2_inb (grid0.coords t))
  have hcanon3 := blockM_of _ (off3_at t) (k0_off3_inb (grid0.coords t))
  have hcanonA0 := cellM_of (Ring.sl 3 t.val) (by rw [ht]; rfl) inb_S3_S1_0
  have hcanonA1 := cellM_of (Ring.sl 3 (t.val + 1)) (by rw [ht]; rfl) inb_S3_S1_1
  have hcanonA2 := cellM_of (Ring.sl 3 (t.val + 2)) (by rw [ht]; rfl) inb_S3_S1_2
  have hcanonB0 := slotM_of (Ring.sl 3 t.val) (by rw [ht]; rfl) inb_S3x400x10000_S1x400x10000_0_0_0
  have hcanonB1 := slotM_of (Ring.sl 3 (t.val + 1)) (by rw [ht]; rfl) inb_S3x400x10000_S1x400x10000_1_0_0
  have hcanonB2 := slotM_of (Ring.sl 3 (t.val + 2)) (by rw [ht]; rfl) inb_S3x400x10000_S1x400x10000_2_0_0
  have hcanonC0 := blockM_of (Ring.bk 25 t.val) (by rw [ht]; rfl) inb_S10000x10000_S400x10000_0_0
  have hcanonC1 := blockM_of (Ring.bk 25 (t.val + 1)) (by rw [ht]; rfl) inb_S10000x10000_S400x10000_400_0
  have hcanonC2 := blockM_of (Ring.bk 25 (t.val + 2)) (by rw [ht]; rfl) inb_S10000x10000_S400x10000_800_0
  rw [due_lt c A (by omega : t.val + 1 < 25), due_lt c A (by omega : t.val + 2 < 25)]
  unfold owns flying idle
  iintro ⟨⟨%f1, %hf1, H1⟩, ⟨%f2, %hf2, H2⟩, ⟨%d5, %f5, -, H5⟩, ⟨%d6, %f6, -, H6⟩, ⟨%d7, %f7, -, H7⟩, Hq, HX,
    ⟨Hc0, ⟨%g0, Hs0⟩, Hw0⟩, ⟨Hc1, ⟨%g1, Hs1⟩, Hw1⟩, ⟨Hc2, ⟨%g2, Hs2⟩, Hw2⟩, HW, Hk⟩
  obtain rfl := harg1.eq_unread hf1
  obtain rfl := harg2.eq_unread hf2
  ihave Hw0' := (copy_split c A (Ring.sl 3 t.val) (Ring.bk 25 t.val)).1 $$ Hw0
  icases Hw0' with ⟨Hb0, Hr0⟩
  ihave Hw1' := (copy_split c A (Ring.sl 3 (t.val + 1)) (Ring.bk 25 (t.val + 1))).1 $$ Hw1
  icases Hw1' with ⟨Hb1, Hr1⟩
  ihave Hw2' := (copy_split c A (Ring.sl 3 (t.val + 2)) (Ring.bk 25 (t.val + 2))).1 $$ Hw2
  icases Hw2' with ⟨Hb2, Hr2⟩
  sl_exec (disch := sl_exact hc0)
  have h1 : View.readAt (Elt F) arg1.view (Rect.unit ![0, 0] S128x128.size inb_S128x128_S128x128_0_0).toLoadRect (harg1.unread x1) = x1 := by
    rw [View.readAt_full, harg1.read_unread]
  have h2 : View.readAt (Elt F) arg2.view (Rect.unit ![0, 0] S1x128.size inb_S1x128_S1x128_0_0).toLoadRect (harg2.unread x2) = x2 := by
    rw [View.readAt_full, harg2.read_unread]
  have h6 : body_first.sl.v40 c arg6 X = X := by
    unfold body_first.sl.v40 View.readCov
    rw [View.readAt_full, View.read_writes_whole]
    rfl
  iapply (refill_spec c t A _ K)
  isplitl [Hc0 Hs0 Hb0 Hr0]
  · unfold idle
    isplitl [Hc0]; · iexact Hc0
    isplitl [Hs0]; · iexists _; iexact Hs0
    iapply (copy_split c A (Ring.sl 3 t.val) (Ring.bk 25 t.val)).2
    isplitl [Hb0]; · iexact Hb0
    iexact Hr0
  isplitl [HW]; · iexact HW
  iintro ⟨Hd, HW⟩
  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr; swap; · iexact H5
    ipureintro
    rw [View.read_writes_full, h2]
    unfold body_first.sl.v11 body_first.sl.v14 body_first.sl.H7_1
    rw [View.readCov_full, h1, h6]
    exact stored_eq _ (off4_at t) _ _ _ _ _
  isplitl [H6]
  · iexists _, _; isplitr; swap; · iexact H6
    ipureintro; rfl
  isplitl [H7]
  · iexists _; isplitr; swap; · iexact H7
    ipureintro
    unfold body_first.sl.H7_1
    rw [View.read_writes_full, h1, h6]
  isplitl [Hq]; · iexact Hq
  isplitl [HX]; · iexact HX
  isplitl [Hc1 Hr1]
  · isplitl [Hc1]; · iexists _; iexact Hc1
    iexact Hr1
  isplitl [Hc2 Hr2]
  · isplitl [Hc2]; · iexists _; iexact Hc2
    iexact Hr2
  isplitl [Hd]; · iexact Hd
  iexists _; iexact HW
end

end Cert.KernelIdeal.Layer

end
-- ==== Proof.Layer.Run.lean ====
/-
  The run of the whole kernel program: what holds before every grid point, that the body takes it from one point to the
  next, and so what the memory holds at the end: the arguments as they were, the result array block by block, every
  semaphore at zero.
-/
module

public import proofs.«01_k».proof.Proof.Layer.Body
public import Idealize.ShloMosaic.Lib.Claim

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What holds between points -/

/-- The first grid point. -/
def point₀ : Fin cfg0.N := ⟨0, by rw [show cfg0.N = 25 from N_0]; decide⟩

/-- The support, as the first point leaves it: the features times the weights. -/
def support (c : Dev nD) : Vec F S10000x128 .bf16 := k0_pay1 (V m c main_arg0) (iblk m c 0 point₀)

/-- The support's buffer before point `k`: at anything before the first, at the support from then on. -/
def supportAt (c : Dev nD) (k : ℕ) : sProp 𝕄 :=
  if k = 0 then iprop(∃ d, owns (c : Thread nD τ) supportM fullShare d) else owns (c : Thread nD τ) supportM fullShare (support m c)

/-- Everything the body owns besides its staging buffers, before point `k`. -/
def inv (c : Dev nD) (k : ℕ) : sProp 𝕄 :=
  iprop((∃ d, owns (c : Thread nD τ) xcopyM fullShare d) ∗ supportAt m c k ∗ (∃ r, prngReg c r)
    ∗ semVal ((c : Thread nD τ), SemLoc.dma 7) 0 ∗ wholeAt c xM (V m c main_arg0) ∗ ring c (V m c main_arg1) k)

/-- The output block of point `t`: `outRows` of rows `400 t … 400 t + 399` of the adjacency matrix. -/
def outBlock (c : Dev nD) (t : Fin cfg0.N) : Vec F S400x128 .f32 :=
  outRows ((blockM (Ring.bk 25 t.val)).view.read (Elt F) (V m c main_arg1)) (support m c) (iblk m c 1 t)

/-- The proof data of the launch: the arrays as the program reaches it; each point leaves the weights and the bias in
    their staging buffers and `outBlock` in the output's. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outBlock m c t
  Φ t := inv m c t.val
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlock m c t := by dsimp only [dats]

/-- The weights' staging buffer holds the weights at every point, -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [dats_A]) t d).trans
    (by unfold Dat.fetched Dat.blockOf iblk; rw [dats_A]; try rfl)
/-- and the bias's the bias. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [dats_A]) t d).trans
    (by unfold Dat.fetched Dat.blockOf iblk; rw [dats_A]; try rfl)

/-! ## One point of the grid -/

/-- What the launch calls the body with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- and what it asks back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem inv_castSucc (c : Dev nD) (t : Fin cfg0.N) : (dats m 0 c).Φ t.castSucc = inv m c t.val := by
  dsimp only [dats]; simp only [Fin.val_castSucc]
theorem inv_succ (c : Dev nD) (t : Fin cfg0.N) : (dats m 0 c).Φ t.succ = inv m c (t.val + 1) := by
  dsimp only [dats]; simp only [Fin.val_succ]

set_option maxHeartbeats 1200000 in
/-- The body at any point takes what holds before it to what holds after it. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [after_0, after_1, after_2, inv_castSucc, inv_succ]
  unfold Dat.owesAt Pipeline.owesWithin
  rw [show (dats m 0 c).owed t.castSucc = 0 from rfl, show (dats m 0 c).owed t.succ = 0 from rfl]
  unfold inv supportAt
  rw [if_neg (Nat.succ_ne_zero t.val), ring_pos c _ (Nat.succ_pos t.val)]
  by_cases ht : t.val = 0
  · have e0 : t = point₀ := Fin.ext ht
    rw [if_pos ht, ht, ring_zero]
    iintro ⟨⟨HXc, HS, Hg, Hq, HX, ⟨HI0, HI1, HI2⟩⟩, ⟨%W, -, HW⟩, ⟨%d0, H0⟩, ⟨%d1, H1⟩, ⟨%d2, H2⟩⟩
    iapply (body_first c t _ _ _ _ _ _ _ _ _ _ (iblk m c 1 t) (V m c main_arg1) ht (iblk m c 0 t) (V m c main_arg0) W _)
    rw [ht]
    isplitl [H0]; · iexact H0
    isplitl [H1]; · iexact H1
    isplitl [H2]; · iexists _; iexact H2
    isplitl [HXc]; · iexact HXc
    isplitl [HS]; · iexact HS
    isplitl [Hq]; · iexact Hq
    isplitl [HX]; · iexact HX
    isplitl [HI0]; · iexact HI0
    isplitl [HI1]; · iexact HI1
    isplitl [HI2]; · iexact HI2
    isplitl [HW]; · iexact HW
    iintro ⟨H0, H1, H2, HXc, HS, Hq, HX, HD1, HD2, HD3, ⟨%W', HW'⟩⟩
    isplitl [HXc HS Hg Hq HX HD1 HD2 HD3]
    · isplitl [HXc]; · iexact HXc
      isplitl [HS]; · subst e0; iexact HS
      isplitl [Hg]; · iexact Hg
      isplitl [Hq]; · iexact Hq
      isplitl [HX]; · iexact HX
      isplitl [HD1]; · iexact HD1
      isplitl [HD2]; · iexact HD2
      iexact HD3
    isplitl [HW']
    · iexists W'; isplitr; · ipureintro; exact fun _ _ => Or.inl trivial
      iexact HW'
    isplitl [H0]; · iexact H0
    isplitl [H1]; · iexact H1
    subst e0; iexact H2
  · rw [if_neg ht, ring_pos c _ (by omega : 1 ≤ t.val)]
    iintro ⟨⟨HXc, HS, Hg, Hq, HX, ⟨HD0, HD1, HD2⟩⟩, ⟨%W, -, HW⟩, ⟨%d0, H0⟩, ⟨%d1, H1⟩, ⟨%d2, H2⟩⟩
    iapply (body_later c t _ _ _ _ _ _ _ _ _ _ (iblk m c 1 t) (V m c main_arg1) ht (support m c) W _)
    isplitl [H1]; · iexact H1
    isplitl [H2]; · iexists _; iexact H2
    isplitl [HS]; · iexact HS
    isplitl [HD0]; · iexact HD0
    isplitl [HW]; · iexact HW
    iintro ⟨H1, H2, HS, HD3, ⟨%W', HW'⟩⟩
    isplitl [HXc HS Hg Hq HX HD1 HD2 HD3]
    · isplitl [HXc]; · iexact HXc
      isplitl [HS]; · iexact HS
      isplitl [Hg]; · iexact Hg
      isplitl [Hq]; · iexact Hq
      isplitl [HX]; · iexact HX
      isplitl [HD1]; · iexact HD1
      isplitl [HD2]; · iexact HD2
      iexact HD3
    isplitl [HW']
    · iexists W'; isplitr; · ipureintro; exact fun _ _ => Or.inl trivial
      iexact HW'
    isplitl [H0]; · iexact H0
    isplitl [H1]; · iexact H1
    iexact H2

/-- The body table's entry at point `t` is the body on the point's staging buffers. -/
theorem defs₀_row (t : Fin cfg0.N) : defs₀ (F := F) .tc cfg0.body (cfg0.bodyArgs t (cfg0.slots t)) = bodyAt0 t := by
  unfold defs₀; rw [Defs.onTc_tc]

/-- The launch's obligation on the body, at every point. -/
theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

/-! ## What the launch hands over, and takes back -/

/-- The body's own semaphores: one per slot, and the one of the features' copy. -/
abbrev ownSem : Fin 4 → SemLoc sig := fun j => (![SemLoc.dma 4, SemLoc.dma 5, SemLoc.dma 6, SemLoc.dma 7] : Fin 4 → SemLoc sig) j
theorem ownSem_facts : Pipeline.OwnSemFacts spec0 ownSem := by decide
/-- The operands the body reads from main memory itself. -/
def operands : Finset (Ref sig .tc) := {main_arg0, main_arg1}
theorem operands_sub : operands ⊆ Pipeline.restRefs sig spec0 := by decide

/-- What the launch hands over, piece by piece. -/
theorem handed_eq (c : Dev nD) :
    (Pipeline.ΦD ownSem spec0 operands (V m) c : sProp 𝕄)
      = iprop(((∃ d, owns (c : Thread nD τ) xcopyM fullShare d) ∗ (∃ d, owns (c : Thread nD τ) supportM fullShare d)
            ∗ (∃ d, owns (c : Thread nD τ) slotsM fullShare d)) ∗ (∃ r, prngReg c r)
          ∗ (semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0)
          ∗ (wholeAt c xM (V m c main_arg0) ∗ wholeAt c adjM (V m c main_arg1))) := by
  rw [Pipeline.ΦD_eq, scopedRest0_eq, Pipeline.ownSems0_eq_of_list c ownSem [0, 1, 2, 3] (by decide) (by decide),
    BI.bigSep_eq_bigSepL_of_eq [main_arg0, main_arg1] (by decide) (by decide)]
  simp only [xcopyM, supportM, slotsM, owns_whole]
  rfl

/-- It is what must hold before the first point, -/
theorem handed_in (c : Dev nD) : Pipeline.ΦD ownSem spec0 operands (V m) c ⊢ (dats m 0 c).Φ 0 := by
  rw [handed_eq, show (dats m 0 c).Φ 0 = inv m c 0 from rfl]
  unfold inv supportAt
  rw [if_pos rfl, ring_zero]
  iintro ⟨⟨HXc, HS, HB⟩, Hg, ⟨Hq4, Hq5, Hq6, Hq7⟩, ⟨HX, HA⟩⟩
  isplitl [HXc]; · iexact HXc
  isplitl [HS]; · iexact HS
  isplitl [Hg]; · iexact Hg
  isplitl [Hq7]; · iexact Hq7
  isplitl [HX]; · iexact HX
  iapply (idle_slots (F := F) c (V m c main_arg1)).2
  isplitl [HB]; · iexact HB
  isplitl [Hq4 Hq5 Hq6]
  · isplitl [Hq4]; · iexact Hq4
    isplitl [Hq5]; · iexact Hq5
    iexact Hq6
  iexact HA
/-- and what holds after the last gives it back. -/
theorem handed_out (c : Dev nD) : (dats m 0 c).Φ (Fin.last cfg0.N) ⊢ Pipeline.ΦD ownSem spec0 operands (V m) c := by
  rw [handed_eq, show (dats m 0 c).Φ (Fin.last cfg0.N) = inv m c grid0.N from rfl, N_0]
  unfold inv supportAt
  rw [if_neg (by decide), ring_last]
  iintro ⟨HXc, HS, Hg, Hq7, HX, ⟨HI1, HI2, HI0⟩⟩
  ihave HR := (idle_slots (F := F) c (V m c main_arg1)).1 $$ [HI0 HI1 HI2]
  · isplitl [HI0]; · iexact HI0
    isplitl [HI1]; · iexact HI1
    iexact HI2
  icases HR with ⟨HB, ⟨Hq4, Hq5, Hq6⟩, HA⟩
  isplitl [HXc HS HB]
  · isplitl [HXc]; · iexact HXc
    isplitl [HS]; · iexists _; iexact HS
    iexact HB
  isplitl [Hg]; · iexact Hg
  isplitl [Hq4 Hq5 Hq6 Hq7]
  · isplitl [Hq4]; · iexact Hq4
    isplitl [Hq5]; · iexact Hq5
    isplitl [Hq6]; · iexact Hq6
    iexact Hq7
  isplitl [HX]; · iexact HX
  iexact HA

/-! ## The run -/

set_option maxHeartbeats 800000 in
/-- The host operations before the launch leave the arrays the launch starts from. -/
theorem before_launch : Pipeline.HMain (Ix := Unit) (Name := ℕ) (U := Pipeline.UD sig nD τ) (Lvl := ℕ) cfgs 0 defs₀ Variants.none m
    (main (F := F)) (V m) :=
  Pipeline.hmain_prefix cfgs 0 defs₀ Variants.none m main hostOps0 hostOps0_sub hostOps0_fresh main_chain

set_option backward.isDefEq.respectTransparency.types false in
/-- Every run of the program ends, with the result array written block by block as `dats` says, every other array as the
    launch found it, and every semaphore at zero. -/
theorem run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 ownSem defs₀ Variants.none ownSem_facts operands operands_sub m ρ main
    (hbody := fun c => (body_obligation m c).loose) (hshare := fun c => (dats m 0 c).share_full fun _ => rfl)
    (howed := fun _ _ => rfl) (V := V m) (hmain := before_launch m) (hA := dats_A m) (hin := handed_in m) (hout := handed_out m)

/-- At such an end the arguments are as they began, -/
theorem unchanged (c : Dev nD) (r : PUnit × MemSt nD τ sig (Elt F)) (h : Pipeline.FramePost cfgs (dats m) 0 (V m) r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 0).trans (((dats m 0 c).arrAt_in 0 rfl _).trans ((dats_A m c 0).trans (V_main_arg2 m c))),
    ((h c).2 main_arg3 (Pipeline.mem_restRefs_of main_arg3 (by decide) (by decide))).trans (V_main_arg3 m c)⟩

/-- so every run ends with the arguments as they began and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => unchanged m c r h.1, h.2⟩) (run m ρ)

end Cert.KernelIdeal.Layer

end
-- ==== Proof.Layer.Same.lean ====
/-
  The kernel and its idealization are one program: no operation was rewritten, so their body tables and their main
  functions are equal at every float instance, and what is proved of the one's runs holds of the other's.
-/
module

public import proofs.«01_k».proof.Proof.Gen.Kernel.Launch
public import proofs.«01_k».proof.Proof.Layer.Run

@[expose] public section

set_option maxRecDepth 16384

noncomputable section

namespace Cert.Layer

open Idealize.ShloMosaic Idealize.ShloMosaic.TcCoe Idealize.SL.Sem

variable {F : FTy → Type} [FloatOps F]

/-- The two programs' kernel bodies are the same, -/
theorem bodies_same : Cert.Kernel.defs₀ (F := F) = Cert.KernelIdeal.defs₀ (F := F) := by
  unfold Cert.Kernel.defs₀ Cert.KernelIdeal.defs₀
  congr 1
  funext l a
  obtain ⟨_ | l, h⟩ := l
  · rfl
  · exact absurd h (Nat.not_lt.2 (Nat.le_add_left _ _))
/-- and so are their body tables, -/
theorem tables_same : Cert.Kernel.defs (F := F) = Cert.KernelIdeal.defs (F := F) := by
  unfold Cert.Kernel.defs Cert.KernelIdeal.defs
  exact congrArg _ bodies_same
/-- and their main functions. -/
theorem mains_same : Cert.Kernel.main (F := F) = Cert.KernelIdeal.main (F := F) := rfl

/-- Every run of the kernel ends, its arguments as they began and every semaphore at zero. -/
theorem kernel_quiescent (m : (ℓ : Loc Cert.Kernel.nD Cert.Kernel.τ Cert.Kernel.sig) → Buf (Elt F) ℓ)
    (ρ : Dev Cert.Kernel.nD → PrngReg) :
    θ_run Cert.Kernel.defs (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
        ∧ r.2.mem ((c.tc : Thread Cert.Kernel.nD Cert.Kernel.τ).loc Cert.Kernel.main_arg1)
            = m ((c.tc : Thread Cert.Kernel.nD Cert.Kernel.τ).loc Cert.Kernel.main_arg1)
        ∧ r.2.mem ((c.tc : Thread Cert.Kernel.nD Cert.Kernel.τ).loc Cert.Kernel.main_arg2)
            = m ((c.tc : Thread Cert.Kernel.nD Cert.Kernel.τ).loc Cert.Kernel.main_arg2)
        ∧ r.2.mem ((c.tc : Thread Cert.Kernel.nD Cert.Kernel.τ).loc Cert.Kernel.main_arg3)
            = m ((c.tc : Thread Cert.Kernel.nD Cert.Kernel.τ).loc Cert.Kernel.main_arg3))
      ∧ r.2.sem = fun _ => 0) := by
  rw [tables_same, mains_same]
  exact Cert.KernelIdeal.Layer.quiescent m ρ

end Cert.Layer

end
-- ==== Proof.Layer.Rows.lean ====
/-
  One block, entry by entry, with exact real arithmetic: the support is the features times the weights, and a grid
  point's output rows are its adjacency rows times the support, plus the bias.
-/
module

public import proofs.«01_k».proof.Proof.Layer.Block
public import Idealize.ShloMosaic.PureOps.Ideal
public import Idealize.ShloMosaic.Lib.Pointwise

@[expose] public section

set_option maxRecDepth 16384

noncomputable section

namespace Cert.KernelIdeal.Layer

open Idealize.ShloMosaic Idealize.ShloMosaic.TcCoe
open Cert.KernelIdeal.Gen
open scoped BigOperators

/-- Entry `(k, l)` of the support: row `k` of the features times column `l` of the weights. -/
theorem support_entry (x : FVec Ideal S10000x128 .f32) (w : FVec Ideal S128x128 .f32) (k : Fin 10000) (l : Fin 128) :
    k0_pay1 (F := Ideal) x w (ix2 k l) = ∑ p : Fin 128, x (ix2 k p) * w (ix2 p l) := by
  pointwise [k0_pay1]

/-- Entry `(r, l)` of a point's output rows: row `r` of its adjacency rows times column `l` of the support, plus the
    bias of column `l`. -/
theorem outRows_entry (a : FVec Ideal S400x10000 .f32) (s : FVec Ideal S10000x128 .bf16) (b : FVec Ideal S1x128 .f32)
    (r : Fin 400) (l : Fin 128) :
    outRows (F := Ideal) a s b (ix2 r l) = (∑ k : Fin 10000, a (ix2 r k) * s (ix2 k l)) + b (ix2 0 l) := by
  pointwise [outRows]

end Cert.KernelIdeal.Layer

end
-- ==== Proof.Layer.Spec.lean ====
/-
  The graph-convolution layer as mathematics, and the reference's text read as it.
-/
module

public import proofs.«01_k».proof.Proof.Gen.ReferenceIdeal
public import Idealize.ShloMosaic.PureOps.Ideal
public import Idealize.ShloMosaic.Lib.Pointwise

@[expose] public section

set_option maxRecDepth 16384

noncomputable section

namespace Cert.Layer

open Idealize.ShloMosaic Idealize.ShloMosaic.TcCoe
open Cert.ReferenceIdeal Cert.ReferenceIdeal.Gen
open scoped BigOperators

/-- The layer: node `i`'s output feature `l` is the sum, over the nodes `k`, of `adj i k` times feature `l` of node `k`'s
    transformed features `∑ p, x k p * w p l`, plus the bias of `l`. -/
def layer (x : FVec Ideal S10000x128 .f32) (adj : FVec Ideal S10000x10000 .f32) (w : FVec Ideal S128x128 .f32)
    (b : FVec Ideal S128 .f32) : FVec Ideal S10000x128 .f32 := fun j =>
  (∑ k : Fin 10000, adj (ix2 (j 0) k) * ∑ p : Fin 128, x (ix2 k p) * w (ix2 p (j 1))) + b (ix1 (j 1))

/-- The reference's two host products and its addition of the bias are the layer. -/
theorem reference_eq (x : FVec Ideal S10000x128 .f32) (adj : FVec Ideal S10000x10000 .f32) (w : FVec Ideal S128x128 .f32)
    (b : FVec Ideal S128 .f32) :
    addf (Host.dotGeneral dot_S10000x10000_S10000x128_S10000x128_1_0_0_1_n_n none adj
        (Host.dotGeneral dot_S10000x128_S128x128_S10000x128_1_0_0_1_n_n none x w : FVec Ideal S10000x128 .f32) :
          FVec Ideal S10000x128 .f32)
      (broadcastInDim S10000x128 ![0, 1] bcast_S1x128_S10000x128_0_1 (broadcastInDim S1x128 ![1] bcast_S128_S1x128_1 b))
      = layer x adj w b := by
  funext j
  idx_vars j
  pointwise [layer]

end Cert.Layer

end
-- ==== Proof.Layer.Array.lean ====
/-
  What the arrays hold, with exact real arithmetic: each grid point's block of the result array is the layer's at those
  rows, the blocks cover the array, and so the array ends holding the layer.
-/
module

public import proofs.«01_k».proof.Proof.Layer.Run
public import proofs.«01_k».proof.Proof.Layer.Rows
public import proofs.«01_k».proof.Proof.Layer.Spec
public import Idealize.ShloMosaic.Lib.Pipeline.Value

@[expose] public section

set_option maxRecDepth 16384

noncomputable section

namespace Cert.KernelIdeal.Layer

open Idealize.ShloMosaic Idealize.ShloMosaic.TcCoe Idealize.SL.Sem
open Idealize.ShloMosaic.Pipeline (Dat)
open Cert.KernelIdeal.Gen
open scoped BigOperators

variable (m : (ℓ : Loc nD τ sig) → Buf (Elt Ideal) ℓ) (ρ : Dev nD → PrngReg)

/-- The layer of core `c`'s arguments. -/
def result (c : Dev nD) : FVec Ideal S10000x128 .f32 :=
  Cert.Layer.layer (m ((c : Thread nD τ).loc main_arg0)) (m ((c : Thread nD τ).loc main_arg1)) (m ((c : Thread nD τ).loc main_arg2))
    (m ((c : Thread nD τ).loc main_arg3))

/-! ## Where each block lies -/

theorem point_lt (t : Fin cfg0.N) : t.val < 25 := Nat.lt_of_lt_of_eq t.isLt N_0
theorem row_lt (t : Fin cfg0.N) (r : Fin 400) : 400 * t.val + r.val < 10000 := by
  have := point_lt t; have := r.isLt; omega

/-- The windows' block numbers at point `t`: the weights' and the bias's are always the first, the result's is the
    `t`-th down the rows. -/
theorem numbers : ∀ t : Fin grid0.N, (win0_0.index t 0 = 0 ∧ win0_0.index t 1 = 0) ∧ (win0_1.index t 0 = 0 ∧ win0_1.index t 1 = 0)
    ∧ (win0_2.index t 0 = t.val ∧ win0_2.index t 1 = 0) := by decide +kernel

/-- Entry `(r, l)` of the result's block at point `t` is entry `(400 t + r, l)` of the array; -/
theorem out_at (t : Fin cfg0.N) (f : FVec Ideal S10000x128 .f32) (r : Fin 400) (l : Fin 128) :
    (win0_2.blk t).view.read (Elt Ideal) f (ix2 r l) = f (ix2 ⟨400 * t.val + r.val, row_lt t r⟩ l) := by
  show f _ = f _
  congr 1
  funext a; apply Fin.ext
  match a with
  | ⟨0, _⟩ => show win0_2.index t 0 * 400 + 1 * r.val = 400 * t.val + r.val
              rw [(numbers t).2.2.1]; omega
  | ⟨1, _⟩ => show win0_2.index t 1 * 128 + 1 * l.val = l.val
              rw [(numbers t).2.2.2]; omega
/-- of the adjacency block that point `t` waits for, it is entry `(400 t + r, k)` of the adjacency matrix; -/
theorem adj_at (t : Fin cfg0.N) (f : FVec Ideal S10000x10000 .f32) (r : Fin 400) (k : Fin 10000) :
    (blockM (Ring.bk 25 t.val)).view.read (Elt Ideal) f (ix2 r k) = f (ix2 ⟨400 * t.val + r.val, row_lt t r⟩ k) := by
  show f _ = f _
  congr 1
  funext a; apply Fin.ext
  match a with
  | ⟨0, _⟩ => show 400 * (Ring.bk 25 t.val).val + 1 * r.val = 400 * t.val + r.val
              rw [Ring.bk_val (point_lt t)]; omega
  | ⟨1, _⟩ => show 0 + 1 * k.val = k.val
              omega
/-- of the weights' block, the same entry of the weights; -/
theorem weight_at (c : Dev nD) (t : Fin cfg0.N) (p : Fin 128) (l : Fin 128) :
    iblk m c 0 t (ix2 p l) = m ((c : Thread nD τ).loc main_arg2) (ix2 p l) := by
  rw [← V_main_arg2 m c]
  show V m c main_arg2 _ = V m c main_arg2 _
  congr 1
  funext a; apply Fin.ext
  match a with
  | ⟨0, _⟩ => show win0_0.index t 0 * 128 + 1 * p.val = p.val
              rw [(numbers t).1.1]; omega
  | ⟨1, _⟩ => show win0_0.index t 1 * 128 + 1 * l.val = l.val
              rw [(numbers t).1.2]; omega
/-- The one-row bias the launch finds is the bias, reshaped, -/
theorem bias_row (c : Dev nD) : V m c main_v0 = shapeCast S1x128 (m ((c : Thread nD τ).loc main_arg3)) shapeCasts_S128_S1x128 := by
  unfold V
  after_results
  rfl
/-- so entry `(0, l)` of the bias's block is entry `l` of the bias. -/
theorem bias_at (c : Dev nD) (t : Fin cfg0.N) (l : Fin 128) :
    iblk m c 1 t (ix2 0 l) = m ((c : Thread nD τ).loc main_arg3) (ix1 l) := by
  have e : iblk m c 1 t (ix2 0 l) = V m c main_v0 (ix2 0 l) := by
    show V m c main_v0 _ = V m c main_v0 _
    congr 1
    funext a; apply Fin.ext
    match a with
    | ⟨0, _⟩ => show win0_1.index t 0 * 1 + 1 * 0 = 0
                rw [(numbers t).2.1.1]
    | ⟨1, _⟩ => show win0_1.index t 1 * 128 + 1 * l.val = l.val
                rw [(numbers t).2.1.2]; omega
  rw [e, bias_row]
  pointwise

/-! ## The result array -/

/-- Entry `(r, l)` of the block point `t` leaves is the layer's entry `(400 t + r, l)`. -/
theorem outBlock_entry (c : Dev nD) (t : Fin cfg0.N) (r : Fin 400) (l : Fin 128) :
    outBlock m c t (ix2 r l) = result m c (ix2 ⟨400 * t.val + r.val, row_lt t r⟩ l) := by
  unfold outBlock support
  refine (outRows_entry _ _ _ r l).trans ?_
  rw [bias_at]
  unfold result Cert.Layer.layer
  congr 1
  refine Finset.sum_congr rfl fun k _ => ?_
  rw [adj_at, support_entry, V_main_arg0, V_main_arg1]
  congr 1
  exact Finset.sum_congr rfl fun p _ => by rw [weight_at]; rfl

/-- What point `t` writes back is the layer at its rows. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after_2]
  funext (j : S400x128.Idx)
  obtain ⟨r, l, rfl⟩ : ∃ (r : Fin 400) (l : Fin 128), j = ix2 r l := ⟨j 0, j 1, eq_ix2 j⟩
  exact (outBlock_entry m c t r l).trans (out_at t (result m c) r l).symm

/-- An entry of the array lies in point `t`'s block when its row is one of the 400 from `400 t` on, -/
theorem mem_block (t : Fin cfg0.N) (i : S10000x128.Idx) (h : t.val * 400 ≤ (i 0).val ∧ (i 0).val < t.val * 400 + 400) :
    i ∈ ((cfg0.win 2).blk t).view.set := by
  show i ∈ ((View.whole main_v1).slice (win0_2.rect t)).set
  rw [View.set_slice_whole, Rect.mem_set_unit]
  have h1 : (i 1).val < 128 := (i 1).isLt
  intro a
  match a with
  | ⟨0, _⟩ => show win0_2.index t 0 * 400 ≤ (i 0).val ∧ (i 0).val < win0_2.index t 0 * 400 + 400
              rw [(numbers t).2.2.1]; exact h
  | ⟨1, _⟩ => show win0_2.index t 1 * 128 ≤ (i 1).val ∧ (i 1).val < win0_2.index t 1 * 128 + 128
              rw [(numbers t).2.2.2]; omega
/-- so every entry lies in the block of some point: row `i` in that of point `i / 400`. -/
theorem covered (i : S10000x128.Idx) :
    ∃ t : Fin cfg0.N, (cfg0.win 2).flush t = true ∧ i ∈ ((cfg0.win 2).blk t).view.set := by
  have h0 : (i 0).val < 10000 := (i 0).isLt
  have hN : cfg0.N = 25 := N_0
  exact ⟨⟨(i 0).val / 400, by omega⟩, flush0_2 _, mem_block _ i (by dsimp only; omega)⟩

/-- So the result array ends holding the layer, -/
theorem result_eq (c : Dev nD) : (dats m 0 c).arrAt 2 cfg0.N = result m c :=
  (dats m 0 c).arrAt_eq_of_cover 2 (result m c) (fun t _ => flushed_eq m c t) covered

/-- and every run of the program ends with the layer in the result array and the arguments as they began. -/
theorem value : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 2).trans (result_eq m c), unchanged m c _ h.1⟩) (run m ρ)

end Cert.KernelIdeal.Layer

end
-- ==== Proof.lean ====
/-
  The certificate of the graph-convolution kernel, `adj @ (x @ weight) + bias` on 10000 nodes: its frames, its
  idealization's, the reference's, and the equation between the idealized kernel's result and the reference's.

  Layer/Names.lean   the slots, blocks and semaphores, and the body's conditions as statements about the grid point
  Layer/Ring.lean    the three slots and the transfers in flight between points
  Layer/Block.lean   what one point computes
  Layer/Body.lean    the kernel body at the first point and at a later one
  Layer/Run.lean     the launch: every run's end, for any float values
  Layer/Same.lean    the kernel and its idealization are one program
  Layer/Rows.lean    one block, entry by entry, with exact arithmetic
  Layer/Spec.lean    the layer as mathematics, and the reference read as it
  Layer/Array.lean   the result array is the layer
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Layer.Same
public import proofs.«01_k».proof.Proof.Layer.Array
public import Idealize.ShloMosaic.Lib.Quiescent

@[expose] public section

noncomputable section

namespace Cert.Proof

open Idealize.ShloMosaic Idealize.SL.Sem

/-- The kernel as compiled runs to the end, arguments unchanged, semaphores at zero; -/
theorem kernel : Cert.quiescent_Kernel := fun m g _ => Cert.Layer.kernel_quiescent m g
/-- and so does its idealization; -/
theorem kernelIdeal : Cert.quiescent_KernelIdeal := fun m g _ => Cert.KernelIdeal.Layer.quiescent m g
/-- and the reference, which has no semaphore. -/
theorem referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- With exact arithmetic the kernel and the reference end with the same result: the layer of the arguments. -/
theorem algebraic : Cert.algebraic_KernelIdeal_ReferenceIdeal := by
  intro m g m' g' _ same
  refine ⟨Cert.KernelIdeal.Layer.result m, Cert.KernelIdeal.Layer.value m g, ?_⟩
  refine (θ_run Cert.ReferenceIdeal.defs _ _).mono (fun r h c => ⟨(h c).1.trans ?_, (h c).2⟩)
    (Cert.ReferenceIdeal.Value.run (F := Ideal) m' g')
  obtain ⟨hx, hadj, hw, hb⟩ := same c
  refine (Cert.Layer.reference_eq _ _ _ _).trans ?_
  rw [hx, hadj, hw, hb]
  rfl

/-- Every claim of the certificate. -/
theorem claim : Cert.Claim :=
  ⟨Cert.Kernel.Gen.facts, Cert.KernelIdeal.Gen.facts, Cert.ReferenceIdeal.Gen.facts, kernel, kernelIdeal, referenceIdeal, trivial,
    algebraic⟩

end Cert.Proof

end
